-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_head [hPre_finite_head : Cert.Pre_finite_head.Facts] (m : (ℓ : Loc Cert.KernelIdeal.nD Cert.KernelIdeal.τ Cert.KernelIdeal.sig) → Buf (Elt Ideal) ℓ) : Prop :=
  ∀ c : Dev Cert.KernelIdeal.nD,
    (Cert.Pre_finite_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_head [hPre_finite_head : Cert.Pre_finite_head.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_head [hKernelIdeal : Cert.KernelIdeal.Facts] [hPre_finite_head : Cert.Pre_finite_head.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_head m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_head [hReferenceIdeal : Cert.ReferenceIdeal.Facts] [hPre_finite_head : Cert.Pre_finite_head.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_head m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_head [hKernelIdeal : Cert.KernelIdeal.Facts] [hReferenceIdeal : Cert.ReferenceIdeal.Facts] [hPre_finite_head : Cert.Pre_finite_head.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_head m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_head : Cert.Pre_finite_head.Facts),
    quiescent_Kernel (hKernel := hKernel)
    ∧ quiescent_KernelIdeal (hKernelIdeal := hKernelIdeal)
    ∧ quiescent_KernelIdeal_pre_finite_head (hKernelIdeal := hKernelIdeal) (hPre_finite_head := hPre_finite_head)
    ∧ quiescent_ReferenceIdeal (hReferenceIdeal := hReferenceIdeal)
    ∧ quiescent_ReferenceIdeal_pre_finite_head (hReferenceIdeal := hReferenceIdeal) (hPre_finite_head := hPre_finite_head)
    ∧ preserves_Kernel_KernelIdeal
    ∧ algebraic_KernelIdeal_ReferenceIdeal_pre_finite_head (hKernelIdeal := hKernelIdeal) (hReferenceIdeal := hReferenceIdeal) (hPre_finite_head := hPre_finite_head)
-- ==== Pre_finite_head.lean ====
abbrev S100000x512 : Shape := ⟨2, ![100000, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S100000 : Shape := ⟨1, ![100000]⟩
abbrev S_ : Shape := ⟨0, ![]⟩

class Facts : Prop where
  bcast_S_S256x1 : S_.BroadcastsInDim S256x1 (![] : Fin 0 → Fin S256x1.rank)
  bcast_S_S1 : S_.BroadcastsInDim S1 (![] : Fin 0 → Fin S1.rank)

variable [Facts]

def fn {F : FTy → Type} [FloatOps F] (main_arg0 : FVec F S100000x512 .f32) (main_arg1 : FVec F S512x256 .f32) (main_arg2 : FVec F S256 .f32) (main_arg3 : FVec F S256x1 .f32) (main_arg4 : FVec F S1 .f32) (main_arg5 : IVec S100000 32) : IVec S256x1 1 × IVec S1 1 :=
  let main_v0 : FVec F S256x1 .f32 := Host.absf main_arg3
  let main_cst : FVec F S_ .f32 := constant S_ .f32 0x7F800000#32
  let main_v1 : FVec F S256x1 .f32 := broadcastInDim S256x1 ![] bcast_S_S256x1 main_cst
  let main_v2 : IVec S256x1 1 := cmpf .olt main_v0 main_v1
  let main_v3 : FVec F S1 .f32 := Host.absf main_arg4
  let main_cst_0 : FVec F S_ .f32 := constant S_ .f32 0x7F800000#32
  let main_v4 : FVec F S1 .f32 := broadcastInDim S1 ![] bcast_S_S1 main_cst_0
  let main_v5 : IVec S1 1 := cmpf .olt main_v3 main_v4
  (main_v2, main_v5)
-- ==== Kernel.lean ====
abbrev S100000x512 : Shape := ⟨2, ![100000, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S100000 : Shape := ⟨1, ![100000]⟩
abbrev S25x2x2000 : Shape := ⟨3, ![25, 2, 2000]⟩
abbrev S1x256 : Shape := ⟨2, ![1, 256]⟩
abbrev S_ : Shape := ⟨0, ![]⟩
abbrev S1x1 : Shape := ⟨2, ![1, 1]⟩
abbrev S64x512 : Shape := ⟨2, ![64, 512]⟩
abbrev S4000x512 : Shape := ⟨2, ![4000, 512]⟩
abbrev S1x2x2000 : Shape := ⟨3, ![1, 2, 2000]⟩
abbrev S64x1 : Shape := ⟨2, ![64, 1]⟩
abbrev S2000x512 : Shape := ⟨2, ![2000, 512]⟩
abbrev S2000x256 : Shape := ⟨2, ![2000, 256]⟩
abbrev S2000 : Shape := ⟨1, ![2000]⟩
abbrev S2000x1 : Shape := ⟨2, ![2000, 1]⟩
abbrev S1x2000 : Shape := ⟨2, ![1, 2000]⟩
abbrev S1x1x2000 : Shape := ⟨3, ![1, 1, 2000]⟩
abbrev S64x2000 : Shape := ⟨2, ![64, 2000]⟩
abbrev S64 : Shape := ⟨1, ![64]⟩

abbrev nBuf : Space → Nat
  | .hbm => 19
  | .vmem => 12
  | .smem => 0
  | _ => 0

abbrev bufTy : (tb : Table) → Fin (tcTables nBuf tb) → BufTy
  | .hbm, ⟨0, _⟩ => ⟨S100000x512, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S100000, .i32⟩
  | .hbm, ⟨6, _⟩ => ⟨S25x2x2000, .i32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S1x1, .f32⟩
  | .hbm, ⟨18, _⟩ => ⟨S64x512, .f32⟩
  | .local _ .vmem, ⟨0, _⟩ => ⟨S4000x512, .f32⟩
  | .local _ .vmem, ⟨1, _⟩ => ⟨S4000x512, .f32⟩
  | .local _ .vmem, ⟨2, _⟩ => ⟨S512x256, .f32⟩
  | .local _ .vmem, ⟨3, _⟩ => ⟨S1x256, .f32⟩
  | .local _ .vmem, ⟨4, _⟩ => ⟨S1x256, .f32⟩
  | .local _ .vmem, ⟨5, _⟩ => ⟨S1x1, .f32⟩
  | .local _ .vmem, ⟨6, _⟩ => ⟨S1x2x2000, .i32⟩
  | .local _ .vmem, ⟨7, _⟩ => ⟨S1x2x2000, .i32⟩
  | .local _ .vmem, ⟨8, _⟩ => ⟨S64x512, .f32⟩
  | .local _ .vmem, ⟨9, _⟩ => ⟨S64x512, .f32⟩
  | .local _ .vmem, ⟨10, _⟩ => ⟨S64x1, .f32⟩
  | .local _ .vmem, ⟨11, _⟩ => ⟨S64x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_cst : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v101 : BitVec 1 := Scalar.cmpi .eq arg0 c24_i32
  let v102 : BitVec 32 := Scalar.extui v101
  let c0_i32_46 : BitVec 32 := 0#32
  let v103 : BitVec 1 := Scalar.cmpi .ne v102 c0_i32_46
  v103

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x2000 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S100000x512 : Shape := ⟨2, ![100000, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S100000 : Shape := ⟨1, ![100000]⟩
abbrev S100000x256 : Shape := ⟨2, ![100000, 256]⟩
abbrev S1x256 : Shape := ⟨2, ![1, 256]⟩
abbrev S100000x1 : Shape := ⟨2, ![100000, 1]⟩
abbrev S1x1 : Shape := ⟨2, ![1, 1]⟩
abbrev S64 : Shape := ⟨1, ![64]⟩
abbrev S1x64 : Shape := ⟨2, ![1, 64]⟩
abbrev S100000x64 : Shape := ⟨2, ![100000, 64]⟩
abbrev S_ : Shape := ⟨0, ![]⟩
abbrev S64x512 : Shape := ⟨2, ![64, 512]⟩
abbrev S64x1 : Shape := ⟨2, ![64, 1]⟩

abbrev nBuf : Space → Nat
  | .hbm => 82
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S100000, .i32⟩
  | .hbm, ⟨6, _⟩ => ⟨S100000x256, .f32⟩
  | .hbm, ⟨7, _⟩ => ⟨S1x256, .f32⟩
  | .hbm, ⟨8, _⟩ => ⟨S100000x256, .f32⟩
  | .hbm, ⟨9, _⟩ => ⟨S100000x256, .f32⟩
  | .hbm, ⟨10, _⟩ => ⟨S100000x256, .f32⟩
  | .hbm, ⟨11, _⟩ => ⟨S100000x1, .f32⟩
  | .hbm, ⟨12, _⟩ => ⟨S1x1, .f32⟩
  | .hbm, ⟨13, _⟩ => ⟨S100000x1, .f32⟩
  | .hbm, ⟨14, _⟩ => ⟨S100000x1, .f32⟩
  | .hbm, ⟨15, _⟩ => ⟨S100000, .f32⟩
  | .hbm, ⟨16, _⟩ => ⟨S100000x1, .i32⟩
  | .hbm, ⟨17, _⟩ => ⟨S64, .i32⟩
  | .hbm, ⟨18, _⟩ => ⟨S1x64, .i32⟩
  | .hbm, ⟨19, _⟩ => ⟨S100000x64, .i32⟩
  | .hbm, ⟨20, _⟩ => ⟨S100000x64, .i32⟩
  | .hbm, ⟨21, _⟩ => ⟨S100000x64, .i1⟩
  | .hbm, ⟨22, _⟩ => ⟨S100000x1, .f32⟩
  | .hbm, ⟨23, _⟩ => ⟨S_, .f32⟩
  | .hbm, ⟨24, _⟩ => ⟨S_, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .i1⟩
  | .hbm, ⟨34, _⟩ => ⟨S_, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .i32⟩
  | .hbm, ⟨39, _⟩ => ⟨S100000, .i32⟩
  | .hbm, ⟨40, _⟩ => ⟨S100000, .i1⟩
  | .hbm, ⟨41, _⟩ => ⟨S_, .i32⟩
  | .hbm, ⟨42, _⟩ => ⟨S100000, .i32⟩
  | .hbm, ⟨43, _⟩ => ⟨S100000, .i32⟩
  | .hbm, ⟨44, _⟩ => ⟨S100000, .i32⟩
  | .hbm, ⟨45, _⟩ => ⟨S100000x1, .i32⟩
  | .hbm, ⟨46, _⟩ => ⟨S100000, .f32⟩
  | .hbm, ⟨47, _⟩ => ⟨S100000, .f32⟩
  | .hbm, ⟨48, _⟩ => ⟨S100000, .f32⟩
  | .hbm, ⟨49, _⟩ => ⟨S_, .f32⟩
  | .hbm, ⟨50, _⟩ => ⟨S64, .f32⟩
  | .hbm, ⟨51, _⟩ => ⟨S100000x1, .i32⟩
  | .hbm, ⟨52, _⟩ => ⟨S64, .f32⟩
  | .hbm, ⟨53, _⟩ => ⟨S_, .i32⟩
  | .hbm, ⟨54, _⟩ => ⟨S100000, .i32⟩
  | .hbm, ⟨55, _⟩ => ⟨S100000, .i1⟩
  | .hbm, ⟨56, _⟩ => ⟨S_, .i32⟩
  | .hbm, ⟨57, _⟩ => ⟨S100000, .i32⟩
  | .hbm, ⟨58, _⟩ => ⟨S100000, .i32⟩
  | .hbm, ⟨59, _⟩ => ⟨S100000, .i32⟩
  | .hbm, ⟨60, _⟩ => ⟨S100000x1, .i32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x512, .f32⟩
  | .hbm, ⟨65, _⟩ => ⟨S100000x512, .f32⟩
  | .hbm, ⟨66, _⟩ => ⟨S_, .f32⟩
  | .hbm, ⟨67, _⟩ => ⟨S64x512, .f32⟩
  | .hbm, ⟨68, _⟩ => ⟨S100000x1, .i32⟩
  | .hbm, ⟨69, _⟩ => ⟨S64x512, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S64, .f32⟩
  | .hbm, ⟨74, _⟩ => ⟨S100000x1, .i32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S64x1, .f32⟩
  | .hbm, ⟨80, _⟩ => ⟨S64x512, .f32⟩
  | .hbm, ⟨81, _⟩ => ⟨S64x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== Proof.Block.lean ====
/- What one grid point of the kernel adds to its three accumulators, each payload read at an index. -/
module

public import proofs.«01_k».proof.Proof.Gen.KernelIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal Cert.KernelIdeal.Gen

/-- The unnormalised attention weight of one row: the exponential of its score. -/
def wt (x : Fin 512 → EReal) (w1 : Fin 512 → Fin 256 → EReal) (b1 w2 : Fin 256 → EReal) (b2 : EReal) : EReal :=
  Ideal.exp (∑ k : Fin 256, Ideal.tanh (∑ i : Fin 512, x i * w1 i k + b1 k) * w2 k + b2)

/-- A selection on an equality test of two words is the conditional on their equality. -/
theorem select_eq {w : ℕ} (a b : BitVec w) (x y : EReal) :
    Scalar.select (IntOp.cmpi .eq a b) x y = if a = b then x else y := by
  by_cases h : a = b
  · simp [Scalar.select, IntOp.cmpi, h]
  · simp [Scalar.select, IntOp.cmpi, h, beq_eq_false_iff_ne.mpr h]

/-- The first chunk's masked weights: row `j`'s weight where the row's segment is `g`, zero elsewhere. -/
theorem first_q (v3 : Vec Ideal S512x256 .f32) (v5 v7 : Vec Ideal S1x256 .f32) (v9 : Vec Ideal S1x1 .f32)
    (v11 : Vec Ideal S2000x512 .f32) (v25 : Vec Ideal S1x1x2000 .i32) (g : Fin 64) (j : Fin 2000) :
    k0_pay14 (F := Ideal) v3 v5 v7 v9 v11 v25 (ix2 g j)
      = if BitVec.ofNat 32 g.val = v25 (ix3 0 0 j)
        then wt (fun i => v11 (ix2 j i)) (fun i k => v3 (ix2 i k)) (fun k => v7 (ix2 0 k)) (fun k => v5 (ix2 0 k)) (v9 (ix2 0 0))
        else 0 := by
  pointwise [k0_pay14, k0_pay13, k0_pay12, k0_pay11, k0_pay10, k0_pay9, k0_pay8, wt]
  rw [select_eq]

/-- The second chunk's masked weights, from the values the first chunk has already loaded. -/
theorem second_q (v3 : Vec Ideal S512x256 .f32) (v5 v7 : Vec Ideal S1x256 .f32) (v9 : Vec Ideal S1x1 .f32)
    (v11 : Vec Ideal S2000x512 .f32) (v25 : Vec Ideal S1x1x2000 .i32) (g : Fin 64) (j : Fin 2000) :
    k0_pay20 (F := Ideal) (k0_pay8 v3) (k0_pay9 v5) (k0_pay10 v7) (k0_pay11 v9) v11 v25 (ix2 g j)
      = if BitVec.ofNat 32 g.val = v25 (ix3 0 0 j)
        then wt (fun i => v11 (ix2 j i)) (fun i k => v3 (ix2 i k)) (fun k => v7 (ix2 0 k)) (fun k => v5 (ix2 0 k)) (v9 (ix2 0 0))
        else 0 := by
  pointwise [k0_pay20, k0_pay18, k0_pay19, k0_pay11, k0_pay10, k0_pay9, k0_pay8, wt]
  rw [select_eq]

/-- The first chunk's product with the rows themselves. -/
theorem first_prod (v12 : Vec Ideal S2000x512 .f32) (v34 : FVec Ideal S64x2000 .f32) (g : Fin 64) (d : Fin 512) :
    k0_pay17 (F := Ideal) (k0_pay12 v12) v34 (ix2 g d) = ∑ j : Fin 2000, v34 (ix2 g j) * v12 (ix2 j d) := by
  pointwise [k0_pay17, k0_pay12]

/-- The second chunk's product with the rows themselves. -/
theorem second_prod (v4 : FVec Ideal S512x256 .bf16) (v6 v8 : FVec Ideal S1x256 .f32) (v10 : Ideal .f32)
    (v44 : Vec Ideal S2000x512 .f32) (v58 : Vec Ideal S1x1x2000 .i32) (g : Fin 64) (d : Fin 512) :
    k0_pay23 (F := Ideal) v4 v6 v8 v10 v44 v58 (ix2 g d)
      = ∑ j : Fin 2000, k0_pay20 (F := Ideal) v4 v6 v8 v10 v44 v58 (ix2 g j) * v44 (ix2 j d) := by
  pointwise [k0_pay23, k0_pay18]

/-- The first chunk's weights summed over its rows. -/
theorem first_sum (v3 : Vec Ideal S512x256 .f32) (v5 v7 : Vec Ideal S1x256 .f32) (v9 : Vec Ideal S1x1 .f32)
    (v11 : Vec Ideal S2000x512 .f32) (v25 : Vec Ideal S1x1x2000 .i32) (g : Fin 64) :
    k0_pay15 (F := Ideal) v3 v5 v7 v9 v11 v25 (ix2 g 0)
      = ∑ j : Fin 2000, k0_pay14 (F := Ideal) v3 v5 v7 v9 v11 v25 (ix2 g j) := by
  pointwise [k0_pay15]

/-- The second chunk's weights summed over its rows. -/
theorem second_sum (v4 : FVec Ideal S512x256 .bf16) (v6 v8 : FVec Ideal S1x256 .f32) (v10 : Ideal .f32)
    (v44 : Vec Ideal S2000x512 .f32) (v58 : Vec Ideal S1x1x2000 .i32) (g : Fin 64) :
    k0_pay21 (F := Ideal) v4 v6 v8 v10 v44 v58 (ix2 g 0)
      = ∑ j : Fin 2000, k0_pay20 (F := Ideal) v4 v6 v8 v10 v44 v58 (ix2 g j) := by
  pointwise [k0_pay21]

/-- The first chunk's number of rows in each segment. -/
theorem first_cnt (v25 : Vec Ideal S1x1x2000 .i32) (g : Fin 64) :
    k0_pay16 (F := Ideal) (k0_pay13 v25) (FloatOps.ofBits .f32 0x3F800000#32) (FloatOps.ofBits .f32 0x00000000#32) (ix2 g 0)
      = ∑ j : Fin 2000, if BitVec.ofNat 32 g.val = v25 (ix3 0 0 j) then (1 : EReal) else 0 := by
  pointwise [k0_pay16, k0_pay13]
  simp only [select_eq]

/-- The second chunk's number of rows in each segment. -/
theorem second_cnt (v25 : Vec Ideal S1x1x2000 .i32) (g : Fin 64) :
    k0_pay22 (F := Ideal) v25 (ix2 g 0)
      = ∑ j : Fin 2000, if BitVec.ofNat 32 g.val = v25 (ix3 0 0 j) then (1 : EReal) else 0 := by
  pointwise [k0_pay22, k0_pay19]
  simp only [select_eq]

/-- The first point fills the weighted sum of rows with zero. -/
theorem zero_acc (j : S64x512.Idx) : k0_pay5 (F := Ideal) j = 0 := by pointwise [k0_pay5]
/-- The first point fills the sum of weights with zero. -/
theorem zero_d (j : S64x1.Idx) : k0_pay6 (F := Ideal) j = 0 := by pointwise [k0_pay6]
/-- The first point fills the number of rows with zero. -/
theorem zero_cnt (j : S64x1.Idx) : k0_pay7 (F := Ideal) j = 0 := by pointwise [k0_pay7]
/-- The sum of the two chunks' products starts from zero. -/
theorem zero_prod (j : S64x512.Idx) : k0_pay24 (F := Ideal) j = 0 := by pointwise [k0_pay24]

/-- The weighted sum of rows after a point: the old one, and both chunks' products. -/
theorem step_acc (v43 v76 : FVec Ideal S64x512 .f32) (v77 : Vec Ideal S64x512 .f32) (j : S64x512.Idx) :
    k0_pay1 (F := Ideal) v43 v76 v77 k0_pay24 j = v77 j + (v43 j + v76 j) := by
  pointwise [k0_pay1, k0_pay24]

/-- The sum of weights after a point: the old one, and both chunks' sums. -/
theorem step_d (v36 v69 : FVec Ideal S64x1 .f32) (v85 : Vec Ideal S64x1 .f32) (j : S64x1.Idx) :
    k0_pay2 (F := Ideal) v36 v69 v85 j = v85 j + (v36 j + v69 j) := by
  pointwise [k0_pay2]

/-- The number of rows after a point: the old one, and both chunks' numbers. -/
theorem step_cnt (v41 v74 : FVec Ideal S64x1 .f32) (v93 : Vec Ideal S64x1 .f32) (j : S64x1.Idx) :
    k0_pay3 (F := Ideal) v41 v74 v93 j = v93 j + (v41 j + v74 j) := by
  pointwise [k0_pay3]

/-- The quotient a segment's weighted sum, weight sum and row count give: zero for a segment with no row. -/
def quot (a d n : EReal) : EReal :=
  if 0 < n then Ideal.div a (if 0 < n then d * n else 1) else 0

/-- The last point's stored block is the quotient of the three accumulators. -/
theorem final_at (v104 v105 : Vec Ideal S64x1 .f32) (v110 : Vec Ideal S64x512 .f32) (g : Fin 64) (d : Fin 512) :
    k0_pay4 (F := Ideal) v104 v105 v105 v110 (ix2 g d) = quot (v110 (ix2 g d)) (v104 (ix2 g 0)) (v105 (ix2 g 0)) := by
  pointwise [k0_pay4, quot]

/-- A sum over a point's 4000 rows is the sum over its first 2000 and its last 2000. -/
theorem sum_halves (f : Fin 4000 → EReal) :
    ∑ l : Fin 4000, f l
      = (∑ j : Fin 2000, f ⟨j.val, by omega⟩) + ∑ j : Fin 2000, f ⟨2000 + j.val, by omega⟩ :=
  Fin.sum_univ_add (a := 2000) (b := 2000) f

/-- Row `l` of a point's segment numbers, which are stored as two rows of 2000. -/
def sgAt (sg : Vec Ideal S1x2x2000 .i32) (l : Fin 4000) : BitVec 32 :=
  sg (ix3 0 ⟨l.val / 2000, by omega⟩ ⟨l.val % 2000, Nat.mod_lt _ (by decide)⟩)

/-- Row `l`'s weight toward segment `g` at one point, from the point's blocks. -/
def pwt (xb : Vec Ideal S4000x512 .f32) (w1 : Vec Ideal S512x256 .f32) (w2 b1 : Vec Ideal S1x256 .f32)
    (b2 : Vec Ideal S1x1 .f32) (sg : Vec Ideal S1x2x2000 .i32) (g : Fin 64) (l : Fin 4000) : EReal :=
  if BitVec.ofNat 32 g.val = sgAt sg l
  then wt (fun i => xb (ix2 l i)) (fun i k => w1 (ix2 i k)) (fun k => b1 (ix2 0 k)) (fun k => w2 (ix2 0 k)) (b2 (ix2 0 0))
  else 0

/-- The first 2000 rows of a point's block, loaded. -/
def xlo (xb : Vec Ideal S4000x512 .f32) : Vec Ideal S2000x512 .f32 :=
  View.ld xb (Rect.unit ![0, 0] ![2000, 512] inb_S4000x512_S2000x512_0_0)
/-- The last 2000 rows of a point's block, loaded. -/
def xhi (xb : Vec Ideal S4000x512 .f32) : Vec Ideal S2000x512 .f32 :=
  View.ld xb (Rect.unit ![2000, 0] ![2000, 512] inb_S4000x512_S2000x512_2000_0)
/-- The first 2000 segment numbers of a point, loaded. -/
def slo (sg : Vec Ideal S1x2x2000 .i32) : Vec Ideal S1x1x2000 .i32 :=
  View.ld sg (Rect.unit ![0, 0, 0] ![1, 1, 2000] inb_S1x2x2000_S1x1x2000_0_0_0)
/-- The last 2000 segment numbers of a point, loaded. -/
def shi (sg : Vec Ideal S1x2x2000 .i32) : Vec Ideal S1x1x2000 .i32 :=
  View.ld sg (Rect.unit ![0, 1, 0] ![1, 1, 2000] inb_S1x2x2000_S1x1x2000_0_1_0)

/-- Row `j` of the first load is row `j` of the block. -/
theorem xlo_at (xb : Vec Ideal S4000x512 .f32) (j : Fin 2000) (d : Fin 512) :
    xlo xb (ix2 j d) = xb (ix2 ⟨j.val, by omega⟩ d) := by
  refine View.ld_unit_apply_of _ _ _ _ _ _ fun a => ?_
  fin_cases a <;> simp

/-- Row `j` of the second load is row `2000 + j` of the block. -/
theorem xhi_at (xb : Vec Ideal S4000x512 .f32) (j : Fin 2000) (d : Fin 512) :
    xhi xb (ix2 j d) = xb (ix2 ⟨2000 + j.val, by omega⟩ d) := by
  refine View.ld_unit_apply_of _ _ _ _ _ _ fun a => ?_
  fin_cases a <;> simp

/-- Number `j` of the first load is the segment of row `j`. -/
theorem slo_at (sg : Vec Ideal S1x2x2000 .i32) (j : Fin 2000) :
    slo sg (ix3 0 0 j) = sgAt sg ⟨j.val, by omega⟩ := by
  refine View.ld_unit_apply_of _ _ _ _ _ _ fun a => ?_
  fin_cases a <;> simp <;> omega

/-- Number `j` of the second load is the segment of row `2000 + j`. -/
theorem shi_at (sg : Vec Ideal S1x2x2000 .i32) (j : Fin 2000) :
    shi sg (ix3 0 0 j) = sgAt sg ⟨2000 + j.val, by omega⟩ := by
  refine View.ld_unit_apply_of _ _ _ _ _ _ fun a => ?_
  fin_cases a <;> simp <;> omega

/-- The first chunk's masked weights are the point's weights at its first 2000 rows. -/
theorem first_pwt (xb : Vec Ideal S4000x512 .f32) (w1 : Vec Ideal S512x256 .f32) (w2 b1 : Vec Ideal S1x256 .f32)
    (b2 : Vec Ideal S1x1 .f32) (sg : Vec Ideal S1x2x2000 .i32) (g : Fin 64) (j : Fin 2000) :
    k0_pay14 (F := Ideal) w1 w2 b1 b2 (xlo xb) (slo sg) (ix2 g j) = pwt xb w1 w2 b1 b2 sg g ⟨j.val, by omega⟩ := by
  rw [first_q, slo_at]; simp only [xlo_at]; rfl

/-- The second chunk's masked weights are the point's weights at its last 2000 rows. -/
theorem second_pwt (xb : Vec Ideal S4000x512 .f32) (w1 : Vec Ideal S512x256 .f32) (w2 b1 : Vec Ideal S1x256 .f32)
    (b2 : Vec Ideal S1x1 .f32) (sg : Vec Ideal S1x2x2000 .i32) (g : Fin 64) (j : Fin 2000) :
    k0_pay20 (F := Ideal) (k0_pay8 w1) (k0_pay9 w2) (k0_pay10 b1) (k0_pay11 b2) (xhi xb) (shi sg) (ix2 g j)
      = pwt xb w1 w2 b1 b2 sg g ⟨2000 + j.val, by omega⟩ := by
  rw [second_q, shi_at]; simp only [xhi_at]; rfl

/-- A point adds, to the weighted sum of rows, each of its 4000 rows times the row's weight. -/
theorem point_acc (xb : Vec Ideal S4000x512 .f32) (w1 : Vec Ideal S512x256 .f32) (w2 b1 : Vec Ideal S1x256 .f32)
    (b2 : Vec Ideal S1x1 .f32) (sg : Vec Ideal S1x2x2000 .i32) (a : Vec Ideal S64x512 .f32) (g : Fin 64) (d : Fin 512) :
    k0_pay1 (F := Ideal) (k0_pay17 (k0_pay12 (xlo xb)) (k0_pay14 w1 w2 b1 b2 (xlo xb) (slo sg)))
        (k0_pay23 (k0_pay8 w1) (k0_pay9 w2) (k0_pay10 b1) (k0_pay11 b2) (xhi xb) (shi sg)) a k0_pay24 (ix2 g d)
      = a (ix2 g d) + ∑ l : Fin 4000, pwt xb w1 w2 b1 b2 sg g l * xb (ix2 l d) := by
  rw [step_acc, first_prod, second_prod, sum_halves]
  simp only [first_pwt, second_pwt, xlo_at, xhi_at]

/-- A point adds, to the sum of weights, its 4000 rows' weights. -/
theorem point_d (xb : Vec Ideal S4000x512 .f32) (w1 : Vec Ideal S512x256 .f32) (w2 b1 : Vec Ideal S1x256 .f32)
    (b2 : Vec Ideal S1x1 .f32) (sg : Vec Ideal S1x2x2000 .i32) (a : Vec Ideal S64x1 .f32) (g : Fin 64) :
    k0_pay2 (F := Ideal) (k0_pay15 w1 w2 b1 b2 (xlo xb) (slo sg))
        (k0_pay21 (k0_pay8 w1) (k0_pay9 w2) (k0_pay10 b1) (k0_pay11 b2) (xhi xb) (shi sg)) a (ix2 g 0)
      = a (ix2 g 0) + ∑ l : Fin 4000, pwt xb w1 w2 b1 b2 sg g l := by
  rw [step_d, first_sum, second_sum, sum_halves]
  simp only [first_pwt, second_pwt]

/-- A point adds, to the number of rows, one for each of its 4000 rows in the segment. -/
theorem point_cnt (sg : Vec Ideal S1x2x2000 .i32) (a : Vec Ideal S64x1 .f32) (g : Fin 64) :
    k0_pay3 (F := Ideal) (k0_pay16 (k0_pay13 (slo sg)) (FloatOps.ofBits .f32 0x3F800000#32) (FloatOps.ofBits .f32 0x00000000#32))
        (k0_pay22 (shi sg)) a (ix2 g 0)
      = a (ix2 g 0) + ∑ l : Fin 4000, if BitVec.ofNat 32 g.val = sgAt sg l then (1 : EReal) else 0 := by
  rw [step_cnt, first_cnt, second_cnt, sum_halves]
  simp only [slo_at, shi_at]

end Cert.KernelIdeal.Block
end
-- ==== Proof.Fold.lean ====
/- What the three accumulators hold after the last grid point, as sums over grid points. -/
module

public import proofs.«01_k».proof.Proof.Block
public import Idealize.ShloMosaic.Lib.Pipeline.ReadBack

@[expose] public section

set_option maxRecDepth 16384

noncomputable section

open Idealize.ShloMosaic Idealize.ShloMosaic.TcCoe Idealize.SL.Sem

namespace Cert.KernelIdeal.Fold

open Cert.KernelIdeal Cert.KernelIdeal.Gen Cert.KernelIdeal.Block

variable (m : (ℓ : Loc nD τ sig) → Buf (Elt Ideal) ℓ) (c : Dev nD)

/-- The weights of point `t`'s rows toward segment `g`. -/
abbrev tw (t : Fin cfg0.N) (g : Fin 64) (l : Fin 4000) : EReal :=
  pwt (iblk m c 0 t) (iblk m c 1 t) (iblk m c 3 t) (iblk m c 2 t) (iblk m c 4 t) (iblk m c 5 t) g l

/-- What point `t` adds to the weighted sum of rows. -/
def accTerm (t : Fin cfg0.N) (j : S64x512.Idx) : EReal :=
  ∑ l : Fin 4000, tw m c t (j 0) l * (iblk m c 0 t : Vec Ideal S4000x512 .f32) (ix2 l (j 1))

/-- What point `t` adds to the sum of weights. -/
def dTerm (t : Fin cfg0.N) (j : S64x1.Idx) : EReal := ∑ l : Fin 4000, tw m c t (j 0) l

/-- What point `t` adds to the number of rows. -/
def cntTerm (t : Fin cfg0.N) (j : S64x1.Idx) : EReal :=
  ∑ l : Fin 4000, if BitVec.ofNat 32 (j 0).val = sgAt (iblk m c 5 t) l then (1 : EReal) else 0

/-- The run's first point leaves its own term in the weighted sum of rows. -/
theorem acc_reset (t : Fin cfg0.N) (h0 : t.val % 25 = 0) (j : S64x512.Idx) :
    (outsAt0 m c t.val t.isLt).2.1 j = (fun _ => (0 : EReal)) j + accTerm m c t j := by
  obtain ⟨g, d, rfl⟩ : ∃ (g : Fin 64) (d : Fin 512), j = ix2 g d := ⟨j 0, j 1, eq_ix2 j⟩
  rw [outsAt0_A m c t h0 (by omega)]
  frame_out
  refine (point_acc _ _ _ _ _ _ _ _ _).trans ?_
  rw [zero_acc]; rfl

/-- Every later point adds its own term to the weighted sum of rows. -/
theorem acc_step (t : Fin cfg0.N) (h0 : ¬t.val % 25 = 0) (j : S64x512.Idx) :
    (outsAt0 m c t.val t.isLt).2.1 j
      = (outsAt0 m c (t.val - 1) (Nat.lt_of_le_of_lt (Nat.sub_le _ _) t.isLt)).2.1 j + accTerm m c t j := by
  obtain ⟨g, d, rfl⟩ : ∃ (g : Fin 64) (d : Fin 512), j = ix2 g d := ⟨j 0, j 1, eq_ix2 j⟩
  by_cases h1 : t.val % 25 = 24
  · rw [outsAt0_C m c t h0 h1]
    frame_out
    simp only [read_unread_whole]
    exact point_acc _ _ _ _ _ _ _ _ _
  · rw [outsAt0_B m c t h0 h1]
    frame_out
    simp only [read_unread_whole]
    exact point_acc _ _ _ _ _ _ _ _ _

/-- After the last point the weighted sum of rows holds every point's term. -/
theorem acc_last (t : Fin cfg0.N) (ht : t.val + 1 = cfg0.N) (j : S64x512.Idx) :
    (outsAt0 m c t.val t.isLt).2.1 j = ∑ p : Fin cfg0.N, accTerm m c p j := by
  have h := Pipeline.eq_sum_fin_of_reset_step_apply_last (M := EReal) (fun n h => (outsAt0 m c n h).2.1) 25 (fun _ => 0)
    (accTerm m c) (acc_reset m c) (acc_step m c) (le_of_eq N_0) t ht j
  rw [zero_add] at h
  exact h

/-- The run's first point leaves its own term in the sum of weights. -/
theorem d_reset (t : Fin cfg0.N) (h0 : t.val % 25 = 0) (j : S64x1.Idx) :
    (outsAt0 m c t.val t.isLt).2.2.1 j = (fun _ => (0 : EReal)) j + dTerm m c t j := by
  obtain ⟨g, rfl⟩ : ∃ g : Fin 64, j = ix2 g 0 := ⟨j 0, by rw [eq_ix2 j]; congr 1; exact Subsingleton.elim (α := Fin 1) _ _⟩
  rw [outsAt0_A m c t h0 (by omega)]
  frame_out
  refine (point_d _ _ _ _ _ _ _ _).trans ?_
  rw [zero_d]; rfl

/-- Every later point adds its own term to the sum of weights. -/
theorem d_step (t : Fin cfg0.N) (h0 : ¬t.val % 25 = 0) (j : S64x1.Idx) :
    (outsAt0 m c t.val t.isLt).2.2.1 j
      = (outsAt0 m c (t.val - 1) (Nat.lt_of_le_of_lt (Nat.sub_le _ _) t.isLt)).2.2.1 j + dTerm m c t j := by
  obtain ⟨g, rfl⟩ : ∃ g : Fin 64, j = ix2 g 0 := ⟨j 0, by rw [eq_ix2 j]; congr 1; exact Subsingleton.elim (α := Fin 1) _ _⟩
  by_cases h1 : t.val % 25 = 24
  · rw [outsAt0_C m c t h0 h1]
    frame_out
    simp only [read_unread_whole]
    exact point_d _ _ _ _ _ _ _ _
  · rw [outsAt0_B m c t h0 h1]
    frame_out
    simp only [read_unread_whole]
    exact point_d _ _ _ _ _ _ _ _

/-- After the last point the sum of weights holds every point's term. -/
theorem d_last (t : Fin cfg0.N) (ht : t.val + 1 = cfg0.N) (j : S64x1.Idx) :
    (outsAt0 m c t.val t.isLt).2.2.1 j = ∑ p : Fin cfg0.N, dTerm m c p j := by
  have h := Pipeline.eq_sum_fin_of_reset_step_apply_last (M := EReal) (fun n h => (outsAt0 m c n h).2.2.1) 25 (fun _ => 0)
    (dTerm m c) (d_reset m c) (d_step m c) (le_of_eq N_0) t ht j
  rw [zero_add] at h
  exact h

/-- The run's first point leaves its own term in the number of rows. -/
theorem cnt_reset (t : Fin cfg0.N) (h0 : t.val % 25 = 0) (j : S64x1.Idx) :
    (outsAt0 m c t.val t.isLt).2.2.2 j = (fun _ => (0 : EReal)) j + cntTerm m c t j := by
  obtain ⟨g, rfl⟩ : ∃ g : Fin 64, j = ix2 g 0 := ⟨j 0, by rw [eq_ix2 j]; congr 1; exact Subsingleton.elim (α := Fin 1) _ _⟩
  rw [outsAt0_A m c t h0 (by omega)]
  frame_out
  refine (point_cnt _ _ _).trans ?_
  rw [zero_cnt]; rfl

/-- Every later point adds its own term to the number of rows. -/
theorem cnt_step (t : Fin cfg0.N) (h0 : ¬t.val % 25 = 0) (j : S64x1.Idx) :
    (outsAt0 m c t.val t.isLt).2.2.2 j
      = (outsAt0 m c (t.val - 1) (Nat.lt_of_le_of_lt (Nat.sub_le _ _) t.isLt)).2.2.2 j + cntTerm m c t j := by
  obtain ⟨g, rfl⟩ : ∃ g : Fin 64, j = ix2 g 0 := ⟨j 0, by rw [eq_ix2 j]; congr 1; exact Subsingleton.elim (α := Fin 1) _ _⟩
  by_cases h1 : t.val % 25 = 24
  · rw [outsAt0_C m c t h0 h1]
    frame_out
    simp only [read_unread_whole]
    exact point_cnt _ _ _
  · rw [outsAt0_B m c t h0 h1]
    frame_out
    simp only [read_unread_whole]
    exact point_cnt _ _ _

/-- After the last point the number of rows holds every point's term. -/
theorem cnt_last (t : Fin cfg0.N) (ht : t.val + 1 = cfg0.N) (j : S64x1.Idx) :
    (outsAt0 m c t.val t.isLt).2.2.2 j = ∑ p : Fin cfg0.N, cntTerm m c p j := by
  have h := Pipeline.eq_sum_fin_of_reset_step_apply_last (M := EReal) (fun n h => (outsAt0 m c n h).2.2.2) 25 (fun _ => 0)
    (cntTerm m c) (cnt_reset m c) (cnt_step m c) (le_of_eq N_0) t ht j
  rw [zero_add] at h
  exact h

/-- The block written back after the last point is the quotient of what the three accumulators then hold. -/
theorem out_last (t : Fin cfg0.N) (h0 : ¬t.val % 25 = 0) (h1 : t.val % 25 = 24) (g : Fin 64) (d : Fin 512) :
    (outsAt0 m c t.val t.isLt).1 (ix2 g d)
      = quot ((outsAt0 m c t.val t.isLt).2.1 (ix2 g d)) ((outsAt0 m c t.val t.isLt).2.2.1 (ix2 g 0))
          ((outsAt0 m c t.val t.isLt).2.2.2 (ix2 g 0)) := by
  rw [outsAt0_C m c t h0 h1]
  frame_out
  exact final_at _ _ _ g d

end Cert.KernelIdeal.Fold
end
-- ==== Proof.Entry.lean ====
/- What the kernel's blocks hold, read from its six arguments. -/
module

public import proofs.«01_k».proof.Proof.Fold

@[expose] public section

set_option maxRecDepth 16384

noncomputable section

open Idealize.ShloMosaic Idealize.ShloMosaic.TcCoe Idealize.SL.Sem

namespace Cert.KernelIdeal.Entry

open Cert.KernelIdeal Cert.KernelIdeal.Gen Cert.KernelIdeal.Block Cert.KernelIdeal.Fold

variable (m : (ℓ : Loc nD τ sig) → Buf (Elt Ideal) ℓ) (c : Dev nD)

/-- The rows at launch. -/
abbrev argX : Vec Ideal S100000x512 .f32 := m ((c : Thread nD τ).loc main_arg0)
/-- The first layer's weights at launch. -/
abbrev argW1 : Vec Ideal S512x256 .f32 := m ((c : Thread nD τ).loc main_arg1)
/-- The first layer's bias at launch. -/
abbrev argB1 : Vec Ideal S256 .f32 := m ((c : Thread nD τ).loc main_arg2)
/-- The second layer's weights at launch. -/
abbrev argW2 : Vec Ideal S256x1 .f32 := m ((c : Thread nD τ).loc main_arg3)
/-- The second layer's bias at launch. -/
abbrev argB2 : Vec Ideal S1 .f32 := m ((c : Thread nD τ).loc main_arg4)
/-- The rows' segment numbers at launch. -/
abbrev argSeg : Vec Ideal S100000 .i32 := m ((c : Thread nD τ).loc main_arg5)

/-- Every window's block index at every point (decided). -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0, 0] ∧ win0_6.index t = ![0, 0] :=
  (by decide +kernel : ∀ t : Fin grid0.N, _)

/-- Row `l` of point `t` is one of the 100000 rows. -/
theorem row_lt (t : Fin cfg0.N) (l : Fin 4000) : t.val * 4000 + l.val < 100000 := by
  have := t.isLt; have h : cfg0.N = 25 := N_0; omega

/-- Point `t`'s block of rows holds the rows from `4000 t` on. -/
theorem x_at (t : Fin cfg0.N) (l : Fin 4000) (d : Fin 512) :
    (iblk m c 0 t : Vec Ideal S4000x512 .f32) (ix2 l d) = argX m c (ix2 ⟨t.val * 4000 + l.val, row_lt t l⟩ d) := by
  blk_ext! [iblk, V, idx t]

/-- Every point's block of the first layer's weights is the whole matrix. -/
theorem w1_at (t : Fin cfg0.N) (i : Fin 512) (k : Fin 256) :
    (iblk m c 1 t : Vec Ideal S512x256 .f32) (ix2 i k) = argW1 m c (ix2 i k) := by
  blk_ext! [iblk, V, idx t]

/-- Every point's block of the first bias is the whole bias. -/
theorem b1_at (t : Fin cfg0.N) (k : Fin 256) :
    (iblk m c 2 t : Vec Ideal S1x256 .f32) (ix2 0 k) = argB1 m c (ix1 k) := by
  blk_ext! [iblk, V, idx t]

/-- Every point's block of the second layer's weights is the whole column, laid out as a row. -/
theorem w2_at (t : Fin cfg0.N) (k : Fin 256) :
    (iblk m c 3 t : Vec Ideal S1x256 .f32) (ix2 0 k) = argW2 m c (ix2 k 0) := by
  blk_ext! [iblk, V, idx t]

/-- The shift every score is lowered by: the sum of the second layer's absolute values. -/
def shift : EReal := (∑ k : Fin 256, max (argW2 m c (ix2 k 0)) (-argW2 m c (ix2 k 0))) + max (argB2 m c (ix1 0)) (-argB2 m c (ix1 0))

/-- The bias operand the launch is given: the second bias, less the shift, as a 1x1 array. -/
def lowered (w2 : FVec Ideal S256x1 .f32) (b2 : FVec Ideal S1 .f32) : FVec Ideal S1x1 .f32 :=
  shapeCast S1x1 (subf b2 (broadcastInDim S1 ![] bcast_S_S1
    (addf (Host.reduceAdd (Host.absf (shapeCast S1x256 w2 shapeCasts_S256x1_S1x256)) (constant S_ .f32 0x00000000#32)
        reducesTo_S1x256_S_d0_1 h_S_)
      (Host.absf (shapeCast S_ b2 shapeCasts_S1_S_))))) shapeCasts_S1_S1x1

/-- The launch's bias operand, read from the second layer. -/
theorem lowered_at (w2 : FVec Ideal S256x1 .f32) (b2 : FVec Ideal S1 .f32) :
    lowered w2 b2 (ix2 0 0) = b2 (ix1 0) - ((∑ k : Fin 256, max (w2 (ix2 k 0)) (-w2 (ix2 k 0))) + max (b2 (ix1 0)) (-b2 (ix1 0))) := by
  pointwise [lowered]
  rw [Fin.sum_univ_one]
  rfl

/-- A 1x1 array has one index. -/
theorem one_idx (y : S1x1.Idx) : y = ix2 0 0 := by
  rw [eq_ix2 y]
  exact congrArg₂ ix2 (Subsingleton.elim (α := Fin 1) _ _) (Subsingleton.elim (α := Fin 1) _ _)

/-- The launch is given the lowered bias. -/
theorem lowered_entry : V m c main_call0_v10 = lowered (argW2 m c) (argB2 m c) := by
  unfold V
  after_results
  rfl

/-- Every point's block of the second bias is that bias less the shift. -/
theorem b2_at (t : Fin cfg0.N) :
    (iblk m c 4 t : Vec Ideal S1x1 .f32) (ix2 0 0) = argB2 m c (ix1 0) - shift m c := by
  blk_simp [iblk, idx t]
  rw [lowered_entry]
  exact (congrArg (lowered (argW2 m c) (argB2 m c)) (one_idx _)).trans (lowered_at _ _)

/-- Point `t`'s block of segment numbers holds those of the rows from `4000 t` on. -/
theorem seg_at (t : Fin cfg0.N) (l : Fin 4000) :
    sgAt (iblk m c 5 t) l = argSeg m c (ix1 ⟨t.val * 4000 + l.val, row_lt t l⟩) := by
  unfold sgAt
  blk_ext! [iblk, V, idx t]

/-- Row `r`'s weight toward segment `g`, from the kernel's arguments. -/
def rowWt (g : Fin 64) (r : Fin 100000) : EReal :=
  if BitVec.ofNat 32 g.val = argSeg m c (ix1 r)
  then wt (fun i => argX m c (ix2 r i)) (fun i k => argW1 m c (ix2 i k)) (fun k => argB1 m c (ix1 k))
    (fun k => argW2 m c (ix2 k 0)) (argB2 m c (ix1 0) - shift m c)
  else 0

/-- A point's weights are the array's, at the point's rows. -/
theorem tw_eq (t : Fin cfg0.N) (g : Fin 64) (l : Fin 4000) :
    tw m c t g l = rowWt m c g ⟨t.val * 4000 + l.val, row_lt t l⟩ := by
  unfold tw pwt rowWt
  rw [seg_at, b2_at]
  simp only [x_at, w1_at, b1_at, w2_at]

/-- The weighted sum of rows over the whole array. -/
theorem acc_total (g : Fin 64) (d : Fin 512) :
    ∑ t : Fin cfg0.N, accTerm m c t (ix2 g d) = ∑ r : Fin 100000, rowWt m c g r * argX m c (ix2 r d) := by
  refine Fin.sum_mul_add_congr (fun t l hl => ?_) (by rw [show cfg0.N = 25 from N_0])
  exact congrArg₂ (· * ·) (tw_eq m c t g l) (x_at m c t l d)

/-- The sum of weights over the whole array. -/
theorem d_total (g : Fin 64) : ∑ t : Fin cfg0.N, dTerm m c t (ix2 g 0) = ∑ r : Fin 100000, rowWt m c g r := by
  refine Fin.sum_mul_add_congr (fun t l hl => ?_) (by rw [show cfg0.N = 25 from N_0])
  exact tw_eq m c t g l

/-- The number of rows of a segment over the whole array. -/
theorem cnt_total (g : Fin 64) :
    ∑ t : Fin cfg0.N, cntTerm m c t (ix2 g 0)
      = ∑ r : Fin 100000, if BitVec.ofNat 32 g.val = argSeg m c (ix1 r) then (1 : EReal) else 0 := by
  refine Fin.sum_mul_add_congr (fun t l hl => ?_) (by rw [show cfg0.N = 25 from N_0])
  show (if BitVec.ofNat 32 g.val = sgAt (iblk m c 5 t) l then (1 : EReal) else 0) = _
  rw [seg_at]

/-- The result array is the block written back after the last point. -/
theorem result_last (t : Fin cfg0.N) (ht : t.val = 24) : Value.G6 m c = (outsAt0 m c t.val t.isLt).1 := by
  obtain ⟨n, hn⟩ := t
  obtain rfl : n = 24 := ht
  exact (Value.G6_last m c).trans (congrArg Prod.fst (Value.outsAt0_sweep m c 24 hn).symm)

/-- What the kernel leaves at segment `g`, column `d`, read at the last point. -/
theorem result_at_point (t : Fin cfg0.N) (ht : t.val = 24) (g : Fin 64) (d : Fin 512) :
    Value.G6 m c (ix2 g d)
      = quot (∑ r : Fin 100000, rowWt m c g r * argX m c (ix2 r d)) (∑ r : Fin 100000, rowWt m c g r)
          (∑ r : Fin 100000, if BitVec.ofNat 32 g.val = argSeg m c (ix1 r) then (1 : EReal) else 0) := by
  have hN : t.val + 1 = cfg0.N := by rw [ht, show cfg0.N = 25 from N_0]
  rw [← acc_total, ← d_total, ← cnt_total, ← acc_last m c t hN, ← d_last m c t hN, ← cnt_last m c t hN]
  exact (congrFun (result_last m c t ht) (ix2 g d)).trans (out_last m c t (by omega) (by omega) g d)

/-- What the kernel leaves at segment `g`, column `d`. -/
theorem result_at (g : Fin 64) (d : Fin 512) :
    Value.G6 m c (ix2 g d)
      = quot (∑ r : Fin 100000, rowWt m c g r * argX m c (ix2 r d)) (∑ r : Fin 100000, rowWt m c g r)
          (∑ r : Fin 100000, if BitVec.ofNat 32 g.val = argSeg m c (ix1 r) then (1 : EReal) else 0) :=
  result_at_point m c ⟨24, lt_of_lt_of_eq (by decide) N_0.symm⟩ rfl g d

end Cert.KernelIdeal.Entry
end
-- ==== Proof.Scatter.lean ====
/- The reference's segment sums and its row-by-row lookups of a segment's value, read at an index. -/
module

public import proofs.«01_k».proof.Proof.Gen.ReferenceIdeal.Read
public import Idealize.ShloMosaic.Lib.Pointwise
public import Idealize.ShloMosaic.Lib.Routing.OpsSet

@[expose] public section

set_option maxRecDepth 16384

noncomputable section

open Idealize.ShloMosaic Idealize.ShloMosaic.TcCoe Idealize.SL.Sem

namespace Cert.ReferenceIdeal.Scatter

open Cert.ReferenceIdeal Cert.ReferenceIdeal.Gen

/-- Row `r` of a vector of updates lands on segment `g` when its index, read signed, is `g`. -/
theorem lands1 (idx : IVec S100000x1 32) (r : Fin 100000) (g : Fin 64) :
    scatter_S64_S100000x1_S100000_n_0_0_1.resultIdx? (ix1 r) idx = some (ix1 g) ↔ (idx (ix2 r 0)).toInt = g.val := by
  have hw : scatter_S64_S100000x1_S100000_n_0_0_1.window (ix1 r) 0 = 0 := rfl
  have hs : scatter_S64_S100000x1_S100000_n_0_0_1.start (ix1 r) idx 0 = (idx (ix2 r 0)).toInt := by
    refine congrArg (fun i => (idx i).toInt) (funext fun b => ?_)
    match b with
    | ⟨0, _⟩ => rfl
    | ⟨1, _⟩ => rfl
  refine (Routing.resultIdx?_ix1 _ _ _ _).trans ?_
  rw [hw, hs]
  simp

/-- Entry `(r, e)` of a matrix of updates lands on `(g, d)` when row `r`'s index, read signed, is `g` and `e` is `d`. -/
theorem lands2 (idx : IVec S100000x1 32) (r : Fin 100000) (e : Fin 512) (g : Fin 64) (d : Fin 512) :
    scatter_S64x512_S100000x1_S100000x512_1_0_0_1.resultIdx? (ix2 r e) idx = some (ix2 g d)
      ↔ (idx (ix2 r 0)).toInt = g.val ∧ e = d := by
  have hw0 : scatter_S64x512_S100000x1_S100000x512_1_0_0_1.window (ix2 r e) 0 = 0 := rfl
  have hw1 : scatter_S64x512_S100000x1_S100000x512_1_0_0_1.window (ix2 r e) 1 = e.val := rfl
  have hs0 : scatter_S64x512_S100000x1_S100000x512_1_0_0_1.start (ix2 r e) idx 0 = (idx (ix2 r 0)).toInt := by
    refine congrArg (fun i => (idx i).toInt) (funext fun b => ?_)
    match b with
    | ⟨0, _⟩ => rfl
    | ⟨1, _⟩ => rfl
  have hs1 : scatter_S64x512_S100000x1_S100000x512_1_0_0_1.start (ix2 r e) idx 1 = 0 := rfl
  refine (Routing.resultIdx?_ix2 _ _ _ _ _).trans ?_
  rw [hw0, hw1, hs0, hs1]
  simp [Fin.ext_iff]

/-- A vector scattered onto zeros holds, at segment `g`, the sum of the rows whose index is `g`. -/
theorem sum1 (x : FVec Ideal S64 .f32) (idx : IVec S100000x1 32) (u : FVec Ideal S100000 .f32) (g : Fin 64) (hx : x (ix1 g) = 0) :
    Host.scatterAdd scatter_S64_S100000x1_S100000_n_0_0_1 x idx u (ix1 g)
      = ∑ r : Fin 100000, if (idx (ix2 r 0)).toInt = g.val then u (ix1 r) else 0 := by
  show x (ix1 g) + ∑ j ∈ Finset.univ.filter (fun j => scatter_S64_S100000x1_S100000_n_0_0_1.resultIdx? j idx = some (ix1 g)), u j = _
  rw [hx, zero_add, Finset.sum_filter]
  refine Fintype.sum_equiv (Equiv.piUnique fun a : Fin 1 => Fin (![100000] a)) _ _ fun j => ?_
  obtain ⟨r, rfl⟩ : ∃ r : Fin 100000, j = ix1 r := ⟨j 0, eq_ix1 j⟩
  simp only [lands1]
  rfl

/-- A matrix scattered onto zeros holds, at `(g, d)`, the sum of column `d` over the rows whose index is `g`. -/
theorem sum2 (x : FVec Ideal S64x512 .f32) (idx : IVec S100000x1 32) (u : FVec Ideal S100000x512 .f32) (g : Fin 64) (d : Fin 512)
    (hx : x (ix2 g d) = 0) :
    Host.scatterAdd scatter_S64x512_S100000x1_S100000x512_1_0_0_1 x idx u (ix2 g d)
      = ∑ r : Fin 100000, if (idx (ix2 r 0)).toInt = g.val then u (ix2 r d) else 0 := by
  show x (ix2 g d) + ∑ j ∈ Finset.univ.filter (fun j => scatter_S64x512_S100000x1_S100000x512_1_0_0_1.resultIdx? j idx = some (ix2 g d)), u j = _
  rw [hx, zero_add, Finset.sum_filter, sum_idx2]
  refine Finset.sum_congr rfl fun r _ => ?_
  simp only [lands2]
  by_cases h : (idx (ix2 r 0)).toInt = g.val
  · simp [h]
  · simp [h]

/-- A lookup at a row whose index is the segment `g` reads the table at `g`. -/
theorem look (x : FVec Ideal S64 .f32) (idx : IVec S100000x1 32) (r : Fin 100000) (g : Fin 64)
    (h : idx (ix2 r 0) = BitVec.ofNat 32 g.val) :
    Host.gather gather_S64_S100000x1_S100000_n_0_n_n_0_1_1 x idx (ix1 r) = x (ix1 g) :=
  Routing.gather_take1 gather_S64_S100000x1_S100000_n_0_n_n_0_1_1 rfl rfl rfl rfl x idx r g h (by decide)

end Cert.ReferenceIdeal.Scatter
end
-- ==== Proof.Math.lean ====
/- Facts about extended real numbers, and the equation the two programs' results come down to. -/
module

public import Idealize.ShloMosaic.PureOps.Ideal.Laws

@[expose] public section

noncomputable section

open Idealize.ShloMosaic

namespace Cert.SegmentMean

/-- The 32-bit pattern of positive infinity is read as the top element. -/
theorem inf_bits : Ideal.ofBits .f32 0x7F800000#32 = ⊤ := by
  simp [Ideal.ofBits, Ideal.ieee]

/-- The 32-bit pattern of zero is read as zero. -/
theorem zero_bits : Ideal.ofBits .f32 0x00000000#32 = 0 := by
  simp [Ideal.ofBits, Ideal.ieee]

/-- A number whose absolute value is below the top is a real number. -/
theorem real_of_abs_lt_top (y : EReal) (h : max y (-y) < ⊤) : ∃ r : ℝ, y = (r : EReal) := by
  induction y using EReal.rec with
  | bot => simp at h
  | top => simp at h
  | coe r => exact ⟨r, rfl⟩

/-- A hyperbolic tangent is a real number, at the infinities too. -/
theorem tanh_real (y : EReal) : ∃ r : ℝ, Ideal.tanh y = (r : EReal) := by
  induction y using EReal.rec with
  | bot => exact ⟨-1, show (-1 : EReal) = ((-1 : ℝ) : EReal) by simp⟩
  | top => exact ⟨1, rfl⟩
  | coe r => exact ⟨Real.tanh r, rfl⟩

/-- A sum of real numbers, taken among the extended reals, is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of numbers each of which is real is real. -/
theorem sum_real {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [← coe_sum]; exact Finset.sum_congr rfl fun i _ => hg i⟩

/-- A nonnegative real factor is taken out of a sum of extended reals. -/
theorem sum_mul_coe {ι : Type*} (s : Finset ι) (f : ι → EReal) (a : ℝ) (ha : 0 ≤ a) :
    ∑ i ∈ s, f i * (a : EReal) = (∑ i ∈ s, f i) * (a : EReal) := by
  classical
  induction s using Finset.induction_on with
  | empty => simp
  | insert b s hb ih =>
    rw [Finset.sum_insert hb, Finset.sum_insert hb, ih,
      EReal.right_distrib_of_nonneg_of_ne_top (EReal.coe_nonneg.mpr ha) (EReal.coe_ne_top a)]

/-- The weighted mean over a nonempty set of rows, computed in the two orders: the weighted sum over the product of the
    weights' sum and the rows' number, and the sum of the normalised weights times the rows over the rows' number. The two
    weights of a row differ by a factor common to all rows. -/
theorem mean_eq {ι : Type*} (S : Finset ι) (hS : S.Nonempty) (s : ι → ℝ) (x : ι → EReal) (c M : ℝ) :
    Ideal.div (∑ r ∈ S, (Real.exp (s r - c) : EReal) * x r)
        ((∑ r ∈ S, (Real.exp (s r - c) : EReal)) * ((S.card : ℝ) : EReal))
      = Ideal.div (∑ r ∈ S, x r * Ideal.div (Real.exp (s r - M) : EReal) (∑ r ∈ S, (Real.exp (s r - M) : EReal)))
          ((S.card : ℝ) : EReal) := by
  have hn : (0 : ℝ) < S.card := Nat.cast_pos.mpr hS.card_pos
  have hD : ∀ a : ℝ, 0 < ∑ r ∈ S, Real.exp (s r - a) := fun a => Finset.sum_pos (fun r _ => Real.exp_pos _) hS
  have hc := hD c
  have hM := hD M
  have shift : ∀ r, Real.exp (s r - M) = Real.exp (s r - c) * Real.exp (c - M) := fun r => by
    rw [← Real.exp_add]; congr 1; ring
  have hsum : ∑ r ∈ S, Real.exp (s r - M) = (∑ r ∈ S, Real.exp (s r - c)) * Real.exp (c - M) := by
    rw [Finset.sum_mul]; exact Finset.sum_congr rfl fun r _ => shift r
  have he := Real.exp_pos (c - M)
  rw [coe_sum, coe_sum, ← EReal.coe_mul, Ideal.div_coe (mul_pos hc hn).ne', Ideal.div_coe hn.ne']
  have inner : ∀ r ∈ S, x r * Ideal.div (Real.exp (s r - M) : EReal) ((∑ r ∈ S, Real.exp (s r - M) : ℝ) : EReal)
      = ((Real.exp (s r - c) : EReal) * x r) * ((1 / ∑ r ∈ S, Real.exp (s r - c) : ℝ) : EReal) := fun r _ => by
    rw [Ideal.div_coe hM.ne', ← EReal.coe_mul, mul_comm (Real.exp (s r - c) : EReal), mul_assoc, ← EReal.coe_mul, hsum, shift r]
    congr 2
    field_simp
  rw [Finset.sum_congr rfl inner, sum_mul_coe _ _ _ (by positivity), mul_assoc, ← EReal.coe_mul]
  congr 2
  field_simp

/-- The number of rows of a set, as a sum of ones among the extended reals. -/
theorem card_sum {ι : Type*} (S : Finset ι) : ∑ _r ∈ S, (1 : EReal) = ((S.card : ℝ) : EReal) := by
  rw [show (1 : EReal) = ((1 : ℝ) : EReal) from rfl, coe_sum]; simp

/-- The two programs' results at one segment and one column are equal: rows `r` of the segment are those with `p r`, their
    scores `s r` are real, `c` and `M` are the two numbers the scores are lowered by. Where the segment has no row both are zero. -/
theorem results_eq {ι : Type*} [Fintype ι] (p : ι → Prop) [DecidablePred p] (s : ι → ℝ) (x : ι → EReal) (c M : ℝ)
    (n : EReal) (hn : n = ∑ r, if p r then (1 : EReal) else 0) :
    (if 0 < n then Ideal.div (∑ r, (if p r then (Real.exp (s r - c) : EReal) else 0) * x r)
        (if 0 < n then (∑ r, if p r then (Real.exp (s r - c) : EReal) else 0) * n else 1) else 0)
      = Ideal.div (∑ r, if p r then x r * Ideal.div (Real.exp (s r - M) : EReal)
          (∑ r, if p r then (Real.exp (s r - M) : EReal) else 0) else 0) (max n 1) := by
  simp only [ite_mul, zero_mul, ← Finset.sum_filter, card_sum] at hn ⊢
  rcases (Finset.univ.filter p).eq_empty_or_nonempty with h | h
  · rw [h] at hn ⊢
    subst hn
    simp [Ideal.div]
  · have h1 : (1 : ℝ) ≤ ((Finset.univ.filter p).card : ℝ) := by exact_mod_cast h.card_pos
    have hpos : (0 : EReal) < n := by rw [hn]; exact EReal.coe_pos.mpr (by linarith)
    have hmax : max n 1 = n := max_eq_left (by rw [hn]; exact EReal.coe_le_coe_iff.mpr h1)
    rw [if_pos hpos, if_pos hpos, hmax, hn]
    exact mean_eq _ h s x c M

end Cert.SegmentMean
end
-- ==== Proof.RefValue.lean ====
/- What the reference leaves at a segment and a column, from its six arguments. -/
module

public import proofs.«01_k».proof.Proof.Scatter
public import proofs.«01_k».proof.Proof.Math

@[expose] public section

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Read Cert.ReferenceIdeal.Scatter

variable (x0 : FVec Ideal S100000x512 .f32) (x1 : FVec Ideal S512x256 .f32) (x2 : FVec Ideal S256 .f32)
  (x3 : FVec Ideal S256x1 .f32) (x4 : FVec Ideal S1 .f32) (x5 : IVec S100000 32)

/-- Row `r`'s attention score. -/
def score (r : Fin 100000) : EReal :=
  (∑ k : Fin 256, Ideal.tanh (∑ i : Fin 512, x0 (ix2 r i) * x1 (ix2 i k) + x2 (ix1 k)) * x3 (ix2 k 0)) + x4 (ix1 0)

/-- The number subtracted from a segment's scores: their largest one where that is finite, zero elsewhere. -/
def top (g : Fin 64) : EReal := val_main_v22 (F := Ideal) x0 x1 x2 x3 x4 x5 (ix1 g)

/-- Whether row `r` lies in segment `g`. -/
abbrev mem (g : Fin 64) (r : Fin 100000) : Prop := BitVec.ofNat 32 g.val = x5 (ix1 r)

/-- The reference's scores, read at a row. -/
theorem score_at (r : Fin 100000) :
    val_main_v9 (F := Ideal) x0 x1 x2 x3 x4 (ix1 r) = score x0 x1 x2 x3 x4 r := by
  pointwise [val_main_v9, val_main_v8, val_main_v7, val_main_v6, val_main_v5, val_main_v4, val_main_v3, val_main_v2, val_main_v1,
    val_main_v0, score]

/-- A segment's subtracted number is a real number, whatever its scores are. -/
theorem top_real (g : Fin 64) : ∃ M : ℝ, top x0 x1 x2 x3 x4 x5 g = (M : EReal) := by
  unfold top
  rw [val_main_v22_apply, val_main_v21_apply, val_main_v19_apply, val_main_v20_apply]
  generalize val_main_v18 (F := Ideal) x0 x1 x2 x3 x4 x5 (ix1 g) = y
  pointwise [val_main_cst_1, val_main_call1_v1, val_main_call1_v0, val_main_cst_2]
  by_cases h : max y (-y) < ⊤
  · obtain ⟨M, hM⟩ := SegmentMean.real_of_abs_lt_top y h
    exact ⟨M, (if_pos (SegmentMean.inf_bits ▸ h)).trans hM⟩
  · refine ⟨0, (if_neg (SegmentMean.inf_bits ▸ h)).trans ?_⟩
    show Ideal.ofBits .f32 0x00000000#32 = _
    rw [SegmentMean.zero_bits, EReal.coe_zero]

/-- A 32-bit word read signed is the small number `g` exactly when it is `g`'s word. -/
theorem toInt_iff (w : BitVec 32) (g : Fin 64) : w.toInt = (g.val : Int) ↔ BitVec.ofNat 32 g.val = w := by
  have hg := g.isLt
  have e : (BitVec.ofNat 32 g.val).toInt = (g.val : Int) := StableHlo.Predicate.toInt_ofNat_small _ (by omega)
  rw [← e]
  exact ⟨fun h => (BitVec.toInt_inj.mp h).symm, fun h => by rw [h]⟩

/-- A row of segment `g` looks its segment up at `g`: a number that is not negative is not wrapped. -/
theorem wrapped (g : Fin 64) (r : Fin 100000) (h : mem x5 g r) :
    val_main_v28 (F := Ideal) x5 (ix2 r 0) = BitVec.ofNat 32 g.val := by
  have hg := g.isLt
  pointwise [val_main_v28, val_main_v27, val_main_v26, val_main_v25, val_main_v24, val_main_v23, val_main_c, val_main_c_3]
  rw [← h]
  exact Routing.wrap_of_lt _ _ (by rw [BitVec.toNat_ofNat]; omega)

/-- The same of the second lookup's index. -/
theorem wrapped' (g : Fin 64) (r : Fin 100000) (h : mem x5 g r) :
    val_main_v40 (F := Ideal) x5 (ix2 r 0) = BitVec.ofNat 32 g.val := by
  have hg := g.isLt
  pointwise [val_main_v40, val_main_v39, val_main_v38, val_main_v37, val_main_v36, val_main_v35, val_main_c_5, val_main_c_6]
  rw [← h]
  exact Routing.wrap_of_lt _ _ (by rw [BitVec.toNat_ofNat]; omega)

/-- A row of segment `g` has the exponential of its score less the segment's subtracted number. -/
theorem weight_at (g : Fin 64) (r : Fin 100000) (h : mem x5 g r) :
    val_main_v31 (F := Ideal) x0 x1 x2 x3 x4 x5 (ix1 r)
      = Ideal.exp (score x0 x1 x2 x3 x4 r - top x0 x1 x2 x3 x4 x5 g) := by
  rw [val_main_v31_apply, val_main_v30_apply, score_at]
  unfold val_main_v29
  rw [look _ _ r g (wrapped x5 g r h)]
  rfl

/-- The sum of segment `g`'s exponentials. -/
def den (g : Fin 64) : EReal :=
  ∑ r : Fin 100000, if mem x5 g r then Ideal.exp (score x0 x1 x2 x3 x4 r - top x0 x1 x2 x3 x4 x5 g) else 0

/-- The reference's segment sums of exponentials, read at a segment. -/
theorem den_at (g : Fin 64) : val_main_v34 (F := Ideal) x0 x1 x2 x3 x4 x5 (ix1 g) = den x0 x1 x2 x3 x4 x5 g := by
  unfold val_main_v34
  rw [sum1 _ _ _ _ (by pointwise [val_main_v32, val_main_cst_4])]
  refine Finset.sum_congr rfl fun r _ => ?_
  have e : val_main_v33 (F := Ideal) x5 (ix2 r 0) = x5 (ix1 r) := by pointwise [val_main_v33]
  rw [e]
  by_cases h : mem x5 g r
  · rw [if_pos h, if_pos ((toInt_iff _ g).2 h), weight_at _ _ _ _ _ _ g r h]
  · rw [if_neg h, if_neg fun q => h ((toInt_iff _ g).1 q)]

/-- The sum of segment `g`'s rows, each times its share of the segment's exponentials. -/
theorem num_at (g : Fin 64) (d : Fin 512) :
    val_main_v48 (F := Ideal) x0 x1 x2 x3 x4 x5 (ix2 g d)
      = ∑ r : Fin 100000, if mem x5 g r
          then x0 (ix2 r d) * Ideal.div (Ideal.exp (score x0 x1 x2 x3 x4 r - top x0 x1 x2 x3 x4 x5 g)) (den x0 x1 x2 x3 x4 x5 g)
          else 0 := by
  unfold val_main_v48
  rw [sum2 _ _ _ _ _ (by pointwise [val_main_v46, val_main_cst_7])]
  refine Finset.sum_congr rfl fun r _ => ?_
  have e : val_main_v47 (F := Ideal) x5 (ix2 r 0) = x5 (ix1 r) := by pointwise [val_main_v47]
  rw [e]
  by_cases h : mem x5 g r
  · rw [if_pos h, if_pos ((toInt_iff _ g).2 h), val_main_v45_apply]
    have e44 : val_main_v44 (F := Ideal) x0 x1 x2 x3 x4 x5 (ix2 r d) = val_main_v42 (F := Ideal) x0 x1 x2 x3 x4 x5 (ix1 r) := by
      pointwise [val_main_v44, val_main_v43]
    rw [e44, val_main_v42_apply, weight_at _ _ _ _ _ _ g r h]
    unfold val_main_v41
    rw [look _ _ r g (wrapped' x5 g r h), den_at]
    rfl
  · rw [if_neg h, if_neg fun q => h ((toInt_iff _ g).1 q)]

/-- The number of segment `g`'s rows. -/
theorem cnt_at (g : Fin 64) :
    val_main_v52 (F := Ideal) x5 (ix1 g) = ∑ r : Fin 100000, if mem x5 g r then (1 : EReal) else 0 := by
  unfold val_main_v52
  rw [sum1 _ _ _ _ (by pointwise [val_main_v50, val_main_cst_9])]
  refine Finset.sum_congr rfl fun r _ => ?_
  have e : val_main_v51 (F := Ideal) x5 (ix2 r 0) = x5 (ix1 r) := by pointwise [val_main_v51]
  have e1 : val_main_v49 (F := Ideal) (ix1 r) = (1 : EReal) := by pointwise [val_main_v49, val_main_cst_8]
  rw [e, e1]
  by_cases h : mem x5 g r
  · rw [if_pos h, if_pos ((toInt_iff _ g).2 h)]
  · rw [if_neg h, if_neg fun q => h ((toInt_iff _ g).1 q)]

/-- What the reference leaves at segment `g`, column `d`. -/
theorem result_at (g : Fin 64) (d : Fin 512) :
    val_main_v57 (F := Ideal) x0 x1 x2 x3 x4 x5 (ix2 g d)
      = Ideal.div (∑ r : Fin 100000, if mem x5 g r
          then x0 (ix2 r d) * Ideal.div (Ideal.exp (score x0 x1 x2 x3 x4 r - top x0 x1 x2 x3 x4 x5 g)) (den x0 x1 x2 x3 x4 x5 g)
          else 0)
          (max (∑ r : Fin 100000, if mem x5 g r then (1 : EReal) else 0) 1) := by
  have e56 : val_main_v56 (F := Ideal) x5 (ix2 g d) = val_main_v54 (F := Ideal) x5 (ix1 g) := by
    pointwise [val_main_v56, val_main_v55]
  have e53 : val_main_v53 (F := Ideal) (ix1 g) = (1 : EReal) := by pointwise [val_main_v53, val_main_cst_10]
  rw [val_main_v57_apply, e56, val_main_v54_apply, e53, num_at, cnt_at]
  rfl

end Cert.ReferenceIdeal.RefValue
end
-- ==== Proof.Equation.lean ====
/- The kernel's result is the reference's, entry by entry. -/
module

public import proofs.«01_k».proof.Proof.Entry
public import proofs.«01_k».proof.Proof.RefValue

@[expose] public section

set_option maxRecDepth 16384

noncomputable section

open Idealize.ShloMosaic Idealize.ShloMosaic.TcCoe Idealize.SL.Sem

namespace Cert.Equation

open Cert.KernelIdeal Cert.KernelIdeal.Block Cert.KernelIdeal.Entry

variable (m : (ℓ : Loc nD τ sig) → Buf (Elt Ideal) ℓ) (c : Dev nD)

/-- Row `r`'s first sum, before the second bias is added: real when the second layer's weights are. -/
theorem dot_real (hw : ∀ k : Fin 256, ∃ w : ℝ, argW2 m c (ix2 k 0) = (w : EReal)) (r : Fin 100000) :
    ∃ v : ℝ, ∑ k : Fin 256, Ideal.tanh (∑ i : Fin 512, argX m c (ix2 r i) * argW1 m c (ix2 i k) + argB1 m c (ix1 k)) * argW2 m c (ix2 k 0)
      = (v : EReal) := by
  refine SegmentMean.sum_real _ _ fun k => ?_
  obtain ⟨w, hw⟩ := hw k
  obtain ⟨h, hh⟩ := SegmentMean.tanh_real (∑ i : Fin 512, argX m c (ix2 r i) * argW1 m c (ix2 i k) + argB1 m c (ix1 k))
  exact ⟨h * w, by rw [hw, hh, EReal.coe_mul]⟩

/-- The absolute value of a real number is real. -/
theorem abs_real (y : EReal) (h : ∃ r : ℝ, y = (r : EReal)) : ∃ r : ℝ, max y (-y) = (r : EReal) := by
  obtain ⟨r, rfl⟩ := h
  exact ⟨max r (-r), by rw [EReal.coe_strictMono.monotone.map_max, EReal.coe_neg]⟩

/-- The number the kernel lowers every score by is real when the second layer is. -/
theorem shift_real (hw : ∀ k : Fin 256, ∃ w : ℝ, argW2 m c (ix2 k 0) = (w : EReal)) (hb : ∃ b : ℝ, argB2 m c (ix1 0) = (b : EReal)) :
    ∃ v : ℝ, shift m c = (v : EReal) := by
  obtain ⟨u, hu⟩ := SegmentMean.sum_real Finset.univ (fun k : Fin 256 => max (argW2 m c (ix2 k 0)) (-argW2 m c (ix2 k 0)))
    fun k => abs_real _ (hw k)
  obtain ⟨v, hv⟩ := abs_real _ hb
  exact ⟨u + v, by unfold shift; rw [hu, hv, EReal.coe_add]⟩

/-- At every segment and column, the kernel's result is the reference's, the second layer being real. -/
theorem entry_eq (hw : ∀ k : Fin 256, ∃ w : ℝ, argW2 m c (ix2 k 0) = (w : EReal)) (hb : ∃ b : ℝ, argB2 m c (ix1 0) = (b : EReal))
    (g : Fin 64) (d : Fin 512) :
    Cert.ReferenceIdeal.Read.val_main_v57 (F := Ideal) (argX m c) (argW1 m c) (argB1 m c) (argW2 m c) (argB2 m c) (argSeg m c) (ix2 g d)
      = Value.G6 m c (ix2 g d) := by
  rw [Entry.result_at]
  refine (Cert.ReferenceIdeal.RefValue.result_at _ _ _ _ _ _ g d).trans ?_
  choose u hu using dot_real m c hw
  obtain ⟨C, hC⟩ := shift_real m c hw hb
  obtain ⟨b, hb⟩ := hb
  obtain ⟨M, hM⟩ := Cert.ReferenceIdeal.RefValue.top_real (argX m c) (argW1 m c) (argB1 m c) (argW2 m c) (argB2 m c) (argSeg m c) g
  have hk : ∀ r, rowWt m c g r = if BitVec.ofNat 32 g.val = argSeg m c (ix1 r) then (Real.exp ((u r + b) - C) : EReal) else 0 := fun r => by
    unfold rowWt wt
    rw [hu r, hb, hC, ← EReal.coe_sub, ← EReal.coe_add, show u r + (b - C) = (u r + b) - C by ring]
    rfl
  have hr : ∀ r, Ideal.exp (Cert.ReferenceIdeal.RefValue.score (argX m c) (argW1 m c) (argB1 m c) (argW2 m c) (argB2 m c) r
      - Cert.ReferenceIdeal.RefValue.top (argX m c) (argW1 m c) (argB1 m c) (argW2 m c) (argB2 m c) (argSeg m c) g)
      = (Real.exp ((u r + b) - M) : EReal) := fun r => by
    unfold Cert.ReferenceIdeal.RefValue.score
    rw [hM, hu r, hb, ← EReal.coe_add, ← EReal.coe_sub]
    rfl
  unfold Cert.ReferenceIdeal.RefValue.den quot
  simp only [hk, hr]
  exact (SegmentMean.results_eq (fun r => BitVec.ofNat 32 g.val = argSeg m c (ix1 r)) (fun r => u r + b)
    (fun r => argX m c (ix2 r d)) C M _ rfl).symm

/-- The whole result array. -/
theorem array_eq (hw : ∀ k : Fin 256, ∃ w : ℝ, argW2 m c (ix2 k 0) = (w : EReal)) (hb : ∃ b : ℝ, argB2 m c (ix1 0) = (b : EReal)) :
    Cert.ReferenceIdeal.Read.val_main_v57 (F := Ideal) (argX m c) (argW1 m c) (argB1 m c) (argW2 m c) (argB2 m c) (argSeg m c)
      = Value.G6 m c := by
  funext j
  obtain ⟨g, d, rfl⟩ : ∃ (g : Fin 64) (d : Fin 512), j = ix2 g d := ⟨j 0, j 1, eq_ix2 j⟩
  exact entry_eq m c hw hb g d

end Cert.Equation
end
-- ==== Proof.Pre.lean ====
/- The precondition, read: the second layer's numbers are real. -/
module

public import proofs.«01_k».proof.Pre_finite_head
public import proofs.«01_k».proof.Proof.Math
public import Idealize.ShloMosaic.Lib.Pointwise

@[expose] public section

noncomputable section

open Idealize.ShloMosaic

namespace Cert.Pre_finite_head

variable [Facts]
  (x : FVec Ideal S100000x512 .f32) (w1 : FVec Ideal S512x256 .f32) (b1 : FVec Ideal S256 .f32)
  (w2 : FVec Ideal S256x1 .f32) (b2 : FVec Ideal S1 .f32) (seg : IVec S100000 32)

/-- A number whose absolute value tests below infinity is a real number. -/
theorem real_of_test (y : EReal) (h : BitVec.ofBool (decide (max y (-y) < Ideal.ofBits .f32 0x7F800000#32)) = 1#1) :
    ∃ r : ℝ, y = (r : EReal) := by
  rw [SegmentMean.inf_bits] at h
  refine SegmentMean.real_of_abs_lt_top y ?_
  by_contra hn
  rw [decide_eq_false hn] at h
  exact absurd h (by decide)

/-- Where the precondition's first test is true everywhere, every weight of the second layer is a real number. -/
theorem weight_real (h : (fn (F := Ideal) x w1 b1 w2 b2 seg).1 = fun _ => 1#1) (k : Fin 256) :
    ∃ r : ℝ, w2 (ix2 k 0) = (r : EReal) := by
  have e := congrFun h (ix2 k 0)
  revert e
  pointwise [fn]
  exact real_of_test _

/-- Where the precondition's second test is true, the second layer's bias is a real number. -/
theorem bias_real (h : (fn (F := Ideal) x w1 b1 w2 b2 seg).2 = fun _ => 1#1) :
    ∃ r : ℝ, b2 (ix1 0) = (r : EReal) := by
  have e := congrFun h (ix1 0)
  revert e
  pointwise [fn]
  exact real_of_test _

end Cert.Pre_finite_head
end
-- ==== Proof.lean ====
/- The claims, assembled: the two programs' runs, the precondition read, and the equation of their results. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Equation
public import proofs.«01_k».proof.Proof.Pre

@[expose] public section

noncomputable section

namespace Cert.Proof

open Idealize.ShloMosaic Idealize.SL.Sem

/-- The side conditions of the precondition's two broadcasts. -/
theorem preFacts : Cert.Pre_finite_head.Facts := ⟨by decide, by decide⟩

/-- The reference runs to its end from every memory, leaves its arguments as they were and no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From agreeing arguments whose second layer is finite, the kernel and the reference leave the same result. -/
theorem algebraic_KernelIdeal_ReferenceIdeal_pre_finite_head :
    algebraic_KernelIdeal_ReferenceIdeal_pre_finite_head (hPre_finite_head := preFacts) := by
  haveI := preFacts
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5⟩ := hagree c
  rw [(h c).1, Cert.ReferenceIdeal.Read.val_main_v57_eq, e0, e1, e2, e3, e4, e5]
  exact Equation.array_eq m c (Pre_finite_head.weight_real _ _ _ _ _ _ (hpre c).1) (Pre_finite_head.bias_real _ _ _ _ _ _ (hpre c).2)

/-- Every claim of the certificate. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ,
    fun m ρ _ => Cert.KernelIdeal.Gen.frame m ρ, quiescent_ReferenceIdeal, fun m ρ _ => quiescent_ReferenceIdeal m ρ trivial,
    (trivial : preserves_Kernel_KernelIdeal), algebraic_KernelIdeal_ReferenceIdeal_pre_finite_head⟩

end Cert.Proof

end
